-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x4096 : Shape := ⟨3, ![4, 2048, 4096]⟩
abbrev S3x2048x4096 : Shape := ⟨3, ![3, 2048, 4096]⟩
abbrev S_ : Shape := ⟨0, ![]⟩

class Facts : Prop where
  slices_S4x2048x4096_S3x2048x4096_1_0_0 : S4x2048x4096.Slices ![1, 0, 0] S3x2048x4096
  bcast_S_S3x2048x4096 : S_.BroadcastsInDim S3x2048x4096 (![] : Fin 0 → Fin S3x2048x4096.rank)

variable [Facts]

def fn {F : FTy → Type} [FloatOps F] (main_arg0 : FVec F S4x2048x4096 .f32) : IVec S3x2048x4096 1 :=
  let main_v0 : FVec F S3x2048x4096 .f32 := (extractStridedSlice S3x2048x4096 ![1, 0, 0] · slices_S4x2048x4096_S3x2048x4096_1_0_0) main_arg0
  let main_v1 : FVec F S3x2048x4096 .f32 := Host.absf main_v0
  let main_cst : FVec F S_ .f32 := constant S_ .f32 0x7F800000#32
  let main_v2 : FVec F S3x2048x4096 .f32 := broadcastInDim S3x2048x4096 ![] bcast_S_S3x2048x4096 main_cst
  let main_v3 : IVec S3x2048x4096 1 := cmpf .olt main_v1 main_v2
  main_v3
-- ==== Kernel.lean ====
abbrev S4x2048x4096 : Shape := ⟨3, ![4, 2048, 4096]⟩
abbrev S1x512x4096 : Shape := ⟨3, ![1, 512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x512x4096, .f32⟩
  | .local _ .vmem, ⟨5, _⟩ => ⟨S1x512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x4096 : Shape := ⟨3, ![4, 2048, 4096]⟩
abbrev S_ : Shape := ⟨0, ![]⟩
abbrev S2049x4096 : Shape := ⟨2, ![2049, 4096]⟩
abbrev S4x2048x2049 : Shape := ⟨3, ![4, 2048, 2049]⟩
abbrev S1 : Shape := ⟨1, ![1]⟩
abbrev S2048x2049 : Shape := ⟨2, ![2048, 2049]⟩
abbrev S4x2048x5 : Shape := ⟨3, ![4, 2048, 5]⟩
abbrev S2049 : Shape := ⟨1, ![2049]⟩
abbrev S1x1x2049 : Shape := ⟨3, ![1, 1, 2049]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2049x4096, .i32⟩
  | .hbm, ⟨8, _⟩ => ⟨S2049x4096, .i32⟩
  | .hbm, ⟨9, _⟩ => ⟨S2049x4096, .i32⟩
  | .hbm, ⟨10, _⟩ => ⟨S_, .i32⟩
  | .hbm, ⟨11, _⟩ => ⟨S2049x4096, .i32⟩
  | .hbm, ⟨12, _⟩ => ⟨S2049x4096, .i32⟩
  | .hbm, ⟨13, _⟩ => ⟨S2049x4096, .f32⟩
  | .hbm, ⟨14, _⟩ => ⟨S2049x4096, .f32⟩
  | .hbm, ⟨15, _⟩ => ⟨S2049x4096, .f32⟩
  | .hbm, ⟨16, _⟩ => ⟨S2049x4096, .f32⟩
  | .hbm, ⟨17, _⟩ => ⟨S2049x4096, .f32⟩
  | .hbm, ⟨18, _⟩ => ⟨S4x2048x2049, .f32⟩
  | .hbm, ⟨19, _⟩ => ⟨S4x2048x2049, .f32⟩
  | .hbm, ⟨20, _⟩ => ⟨S4x2048x2049, .f32⟩
  | .hbm, ⟨21, _⟩ => ⟨S4x2048x2049, .f32⟩
  | .hbm, ⟨22, _⟩ => ⟨S4x2048x2049, .f32⟩
  | .hbm, ⟨23, _⟩ => ⟨S4x2048x2049, .f32⟩
  | .hbm, ⟨24, _⟩ => ⟨S4x2048x2049, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S2048x2049, .f32⟩
  | .hbm, ⟨29, _⟩ => ⟨S4x2048x2049, .f32⟩
  | .hbm, ⟨30, _⟩ => ⟨S4x2048x5, .f32⟩
  | .hbm, ⟨31, _⟩ => ⟨S4x2048x5, .i32⟩
  | .hbm, ⟨32, _⟩ => ⟨S_, .f32⟩
  | .hbm, ⟨33, _⟩ => ⟨S_, .f32⟩
  | .hbm, ⟨34, _⟩ => ⟨S4x2048x2049, .f32⟩
  | .hbm, ⟨35, _⟩ => ⟨S4x2048x2049, .i1⟩
  | .hbm, ⟨36, _⟩ => ⟨S_, .f32⟩
  | .hbm, ⟨37, _⟩ => ⟨S4x2048x2049, .f32⟩
  | .hbm, ⟨38, _⟩ => ⟨S4x2048x2049, .f32⟩
  | .hbm, ⟨39, _⟩ => ⟨S_, .f32⟩
  | .hbm, ⟨40, _⟩ => ⟨S4x2048x2049, .f32⟩
  | .hbm, ⟨41, _⟩ => ⟨S4x2048x2049, .f32⟩
  | .hbm, ⟨42, _⟩ => ⟨S2049, .i32⟩
  | .hbm, ⟨43, _⟩ => ⟨S_, .i32⟩
  | .hbm, ⟨44, _⟩ => ⟨S2049, .i32⟩
  | .hbm, ⟨45, _⟩ => ⟨S2049, .i1⟩
  | .hbm, ⟨46, _⟩ => ⟨S_, .i32⟩
  | .hbm, ⟨47, _⟩ => ⟨S2049, .i32⟩
  | .hbm, ⟨48, _⟩ => ⟨S2049, .i1⟩
  | .hbm, ⟨49, _⟩ => ⟨S2049, .i1⟩
  | .hbm, ⟨50, _⟩ => ⟨S_, .f32⟩
  | .hbm, ⟨51, _⟩ => ⟨S_, .f32⟩
  | .hbm, ⟨52, _⟩ => ⟨S2049, .f32⟩
  | .hbm, ⟨53, _⟩ => ⟨S2049, .f32⟩
  | .hbm, ⟨54, _⟩ => ⟨S2049, .f32⟩
  | .hbm, ⟨55, _⟩ => ⟨S2049, .f32⟩
  | .hbm, ⟨56, _⟩ => ⟨S1x1x2049, .f32⟩
  | .hbm, ⟨57, _⟩ => ⟨S4x2048x2049, .f32⟩
  | .hbm, ⟨58, _⟩ => ⟨S4x2048x2049, .f32⟩
  | .hbm, ⟨59, _⟩ => ⟨S4x2048x4096, .f32⟩
  | .hbm, ⟨60, _⟩ => ⟨S1x1x2049, .f32⟩
  | .hbm, ⟨61, _⟩ => ⟨S4x2048x2049, .f32⟩
  | .hbm, ⟨62, _⟩ => ⟨S4x2048x2049, .f32⟩
  | .hbm, ⟨63, _⟩ => ⟨S4x2048x4096, .f32⟩
  | .hbm, ⟨64, _⟩ => ⟨S4x2048x4096, .f32⟩
  | .hbm, ⟨65, _⟩ => ⟨S_, .f32⟩
  | .hbm, ⟨66, _⟩ => ⟨S4x2048x4096, .f32⟩
  | .hbm, ⟨67, _⟩ => ⟨S4x2048x4096, .f32⟩
  | .hbm, ⟨68, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_values : Ref sig .tc := ⟨.hbm, 30, rfl⟩
abbrev main_indices : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.KernelValue.lean ====
/-
  What the kernel computes. At each of the sixteen grid points one block of 512 rows of the argument is copied into one of
  the two results and zeros are written to the other: into the second result at the four points of slice 0, into the first
  at all others. The blocks tile both results, so after the run the first result is the argument with slice 0 replaced by
  zeros (`final_season`) and the second is slice 0 of the argument with zeros in every other slice (`final_trend`). `run`
  states this of the kernel's run.
-/
module

public import proofs.«01_k».proof.Proof.Gen.KernelIdeal.Value
public import Idealize.ShloMosaic.Lib.Tactic

@[expose] public section

noncomputable section

namespace Cert.KernelIdeal.Split

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The zero offsets of the body's loads and stores. -/
theorem offs_zero : (![0, 0, 0] : Fin 3 → Nat) = fun _ => 0 := funext fun a => by fin_cases a <;> rfl

/-- The block of zeros the body stores. -/
abbrev zeros : Vec F S1x512x4096 .f32 := broadcast S1x512x4096 (Scalar.ofBits .f32 0x00000000#32)

section Body

variable (c : Dev nD) (i : grid0.Coords) (a2 : Memref sig .tc .vmem S1x512x4096 .f32) (h2 : a2.IsWhole)
  (a3 : Memref sig .tc .vmem S1x512x4096 .f32) (h3 : a3.IsWhole) (a4 : Memref sig .tc .vmem S1x512x4096 .f32)
  (h4 : a4.IsWhole) (x : Vec F S1x512x4096 .f32)

/-- In slice 0 the body leaves zeros in the first result's block. -/
theorem season_head (hc0 : cond0_0 i) (hc1 : ¬cond0_1 i) :
    out0_A_1 c i a2 h2 a3 h3 a4 h4 hc0 hc1 x = zeros := by
  unfold out0_A_1
  rw [View.read_writes_eq_canon _ _ _ (cover0_A_1 c i a2 h2 a3 h3 a4 h4 hc0 hc1 x)]
  unfold kernelRun0_A
  dsimp only
  rw [View.canon_unit_zero offs_zero]
  rfl

/-- In slice 0 the body leaves its input block in the second result's block. -/
theorem trend_head (hc0 : cond0_0 i) (hc1 : ¬cond0_1 i) :
    out0_A_2 c i a2 h2 a3 h3 a4 h4 hc0 hc1 x = x := by
  unfold out0_A_2
  rw [View.read_writes_eq_canon _ _ _ (cover0_A_2 c i a2 h2 a3 h3 a4 h4 hc0 hc1 x)]
  unfold kernelRun0_A
  dsimp only
  rw [View.canon_unit_zero offs_zero]
  simp only [View.readAt_eq_ld, h2.read_unread, View.ld_unit_zero (S := S1x512x4096) offs_zero, shapeCast_self]

/-- In every other slice the body leaves its input block in the first result's block. -/
theorem season_tail (hc0 : ¬cond0_0 i) (hc1 : cond0_1 i) :
    out0_B_1 c i a2 h2 a3 h3 a4 h4 hc0 hc1 x = x := by
  unfold out0_B_1
  rw [View.read_writes_eq_canon _ _ _ (cover0_B_1 c i a2 h2 a3 h3 a4 h4 hc0 hc1 x)]
  unfold kernelRun0_B
  dsimp only
  rw [View.canon_unit_zero offs_zero]
  simp only [View.readAt_eq_ld, h2.read_unread, View.ld_unit_zero (S := S1x512x4096) offs_zero, shapeCast_self]

/-- In every other slice the body leaves zeros in the second result's block. -/
theorem trend_tail (hc0 : ¬cond0_0 i) (hc1 : cond0_1 i) :
    out0_B_2 c i a2 h2 a3 h3 a4 h4 hc0 hc1 x = zeros := by
  unfold out0_B_2
  rw [View.read_writes_eq_canon _ _ _ (cover0_B_2 c i a2 h2 a3 h3 a4 h4 hc0 hc1 x)]
  unfold kernelRun0_B
  dsimp only
  rw [View.canon_unit_zero offs_zero]
  rfl

end Body

/-- The first result as a function of the argument: zero in slice 0, the argument elsewhere. -/
def season (x : Vec F S4x2048x4096 .f32) : Vec F S4x2048x4096 .f32 := fun i =>
  if (i 0 : Nat) = 0 then Scalar.ofBits .f32 0x00000000#32 else x i

/-- The second result as a function of the argument: the argument in slice 0, zero elsewhere. -/
def trend (x : Vec F S4x2048x4096 .f32) : Vec F S4x2048x4096 .f32 := fun i =>
  if (i 0 : Nat) = 0 then x i else Scalar.ofBits .f32 0x00000000#32

/-- Along the slices, the block of the argument at point `t` is number `t / 4`. -/
theorem index0_0 : ∀ t : Fin cfg0.N, win0_0.index t 0 = t.val / 4 :=
  (by decide +kernel : ∀ t : Fin grid0.N, win0_0.index t 0 = t.val / 4)

/-- The first result's block at point `t` is number `t / 4` along the slices, `t % 4` along the rows, and whole rows. -/
theorem index1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

/-- The second result's block at point `t` is the same. -/
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

/-- An index inside the first result's block at point `t` lies in slice `t / 4`. -/
theorem emb1_0 (t : Fin cfg0.N) (y : S1x512x4096.Idx) : ((win0_1.rect t).emb y 0 : Nat) = t.val / 4 := by
  show win0_1.index t 0 * 1 + 1 * (y 0).val = _
  have hy : (y 0 : Nat) < 1 := (y 0).isLt
  rw [(index1 t).1]; omega

/-- An index inside the second result's block at point `t` lies in slice `t / 4`. -/
theorem emb2_0 (t : Fin cfg0.N) (y : S1x512x4096.Idx) : ((win0_2.rect t).emb y 0 : Nat) = t.val / 4 := by
  show win0_2.index t 0 * 1 + 1 * (y 0).val = _
  have hy : (y 0 : Nat) < 1 := (y 0).isLt
  rw [(index2 t).1]; omega

/-- What point `t` writes back to the first result is block `t` of `season`. -/
theorem flushed_season (c : Dev nD) (t : Fin cfg0.N) :
    (dats m 0 c).flushed 1 t
      = ((cfg0.win 1).blk t).view.read (Elt F) (season (m ((c : Thread nD τ).loc main_arg0))) := by
  by_cases h : t.val < 4
  · rw [Value.flushed1_A m c t h (by omega), season_head]
    funext y
    show Scalar.ofBits .f32 0x00000000#32 = season (m ((c : Thread nD τ).loc main_arg0)) ((win0_1.rect t).emb y)
    unfold season
    rw [if_pos (by rw [emb1_0]; omega)]
  · rw [Value.flushed1_B m c t h (by omega), season_tail]
    funext y
    show m ((c : Thread nD τ).loc main_arg0) ((win0_0.rect t).emb y)
      = season (m ((c : Thread nD τ).loc main_arg0)) ((win0_1.rect t).emb y)
    unfold season
    rw [if_neg (by rw [emb1_0]; omega)]
    rfl

/-- What point `t` writes back to the second result is block `t` of `trend`. -/
theorem flushed_trend (c : Dev nD) (t : Fin cfg0.N) :
    (dats m 0 c).flushed 2 t
      = ((cfg0.win 2).blk t).view.read (Elt F) (trend (m ((c : Thread nD τ).loc main_arg0))) := by
  by_cases h : t.val < 4
  · rw [Value.flushed2_A m c t h (by omega), trend_head]
    funext y
    show m ((c : Thread nD τ).loc main_arg0) ((win0_0.rect t).emb y)
      = trend (m ((c : Thread nD τ).loc main_arg0)) ((win0_2.rect t).emb y)
    unfold trend
    rw [if_pos (by rw [emb2_0]; omega)]
    rfl
  · rw [Value.flushed2_B m c t h (by omega), trend_tail]
    funext y
    show Scalar.ofBits .f32 0x00000000#32 = trend (m ((c : Thread nD τ).loc main_arg0)) ((win0_2.rect t).emb y)
    unfold trend
    rw [if_neg (by rw [emb2_0]; omega)]

/-- The grid point whose blocks hold index `i`: four points to a slice, 512 rows to a point. -/
def pointOf (i : S4x2048x4096.Idx) : Fin cfg0.N :=
  ⟨4 * (i 0 : Nat) + (i 1 : Nat) / 512, by
    have h0 : (i 0 : Nat) < 4 := (i 0).isLt
    have h1 : (i 1 : Nat) < 2048 := (i 1).isLt
    have hN : cfg0.N = 16 := N_0
    omega⟩

/-- Every index of the first result is in the block of its point. -/
theorem mem_blk1 (i : S4x2048x4096.Idx) : i ∈ ((cfg0.win 1).blk (pointOf i)).view.set := by
  show i ∈ ((View.whole main_v0_0).slice (win0_1.rect (pointOf i))).set
  rw [View.set_slice_whole, Rect.mem_set_unit]
  have h0 : (i 0 : Nat) < 4 := (i 0).isLt
  have h1 : (i 1 : Nat) < 2048 := (i 1).isLt
  have h2 : (i 2 : Nat) < 4096 := (i 2).isLt
  have e := index1 (pointOf i)
  have hp : (pointOf i).val = 4 * (i 0 : Nat) + (i 1 : Nat) / 512 := rfl
  intro a
  match a with
  | ⟨0, _⟩ => show win0_1.index (pointOf i) 0 * 1 ≤ (i 0 : Nat) ∧ (i 0 : Nat) < win0_1.index (pointOf i) 0 * 1 + 1
              rw [e.1]; omega
  | ⟨1, _⟩ => show win0_1.index (pointOf i) 1 * 512 ≤ (i 1 : Nat) ∧ (i 1 : Nat) < win0_1.index (pointOf i) 1 * 512 + 512
              rw [e.2.1]; omega
  | ⟨2, _⟩ => show win0_1.index (pointOf i) 2 * 4096 ≤ (i 2 : Nat) ∧ (i 2 : Nat) < win0_1.index (pointOf i) 2 * 4096 + 4096
              rw [e.2.2]; omega

/-- Every index of the second result is in the block of its point. -/
theorem mem_blk2 (i : S4x2048x4096.Idx) : i ∈ ((cfg0.win 2).blk (pointOf i)).view.set := by
  show i ∈ ((View.whole main_v0_1).slice (win0_2.rect (pointOf i))).set
  rw [View.set_slice_whole, Rect.mem_set_unit]
  have h0 : (i 0 : Nat) < 4 := (i 0).isLt
  have h1 : (i 1 : Nat) < 2048 := (i 1).isLt
  have h2 : (i 2 : Nat) < 4096 := (i 2).isLt
  have e := index2 (pointOf i)
  have hp : (pointOf i).val = 4 * (i 0 : Nat) + (i 1 : Nat) / 512 := rfl
  intro a
  match a with
  | ⟨0, _⟩ => show win0_2.index (pointOf i) 0 * 1 ≤ (i 0 : Nat) ∧ (i 0 : Nat) < win0_2.index (pointOf i) 0 * 1 + 1
              rw [e.1]; omega
  | ⟨1, _⟩ => show win0_2.index (pointOf i) 1 * 512 ≤ (i 1 : Nat) ∧ (i 1 : Nat) < win0_2.index (pointOf i) 1 * 512 + 512
              rw [e.2.1]; omega
  | ⟨2, _⟩ => show win0_2.index (pointOf i) 2 * 4096 ≤ (i 2 : Nat) ∧ (i 2 : Nat) < win0_2.index (pointOf i) 2 * 4096 + 4096
              rw [e.2.2]; omega

/-- The first result after the run is `season` of the argument. -/
theorem final_season (c : Dev nD) :
    (dats m 0 c).arrAt 1 cfg0.N = season (m ((c : Thread nD τ).loc main_arg0)) :=
  (dats m 0 c).arrAt_eq_of_cover 1 (season (m ((c : Thread nD τ).loc main_arg0)))
    (fun t _ => flushed_season m c t) fun i => ⟨pointOf i, flush0_1 _, mem_blk1 i⟩

/-- The second result after the run is `trend` of the argument. -/
theorem final_trend (c : Dev nD) :
    (dats m 0 c).arrAt 2 cfg0.N = trend (m ((c : Thread nD τ).loc main_arg0)) :=
  (dats m 0 c).arrAt_eq_of_cover 2 (trend (m ((c : Thread nD τ).loc main_arg0)))
    (fun t _ => flushed_trend m c t) fun i => ⟨pointOf i, flush0_2 _, mem_blk2 i⟩

/-- The kernel runs and ends with `season` and `trend` of its argument in the two results, the argument unchanged. -/
theorem run : θ_run defs (onTc (τ := τ) (main (F := F))) ⟨m, fun _ => 0, ρ⟩ fun r => ∀ c : Dev nD,
      r.2.mem ((c : Thread nD τ).loc main_v0_0) = season (m ((c : Thread nD τ).loc main_arg0))
      ∧ r.2.mem ((c : Thread nD τ).loc main_v0_1) = trend (m ((c : Thread nD τ).loc main_arg0))
      ∧ r.2.mem ((c : Thread nD τ).loc main_arg0) = m ((c : Thread nD τ).loc main_arg0) :=
  (θ_run defs _ _).mono (fun _ h c => ⟨(h c).1.trans (final_season m c), (h c).2.1.trans (final_trend m c), (h c).2.2⟩)
    (Value.run_blocks m ρ)

end Cert.KernelIdeal.Split

end
-- ==== Proof.Fourier.lean ====
/-
  The real discrete Fourier transform inverts: pure mathematics about real sums, with no program in it. For an even number
  `N = 2 * H` of samples, the cosine and sine sums of a real sequence at the frequencies `0, …, H`, weighted by `1` at the
  two ends and by `2` in between and summed back against the same cosines and sines, give the sequence times `N`
  (`inversion`).
-/
module

public import Mathlib.Analysis.SpecialFunctions.Trigonometric.Basic
public import Mathlib.Analysis.SpecialFunctions.Complex.Log
public import Mathlib.Algebra.BigOperators.Intervals
public import Mathlib.Algebra.Field.GeomSum
public import Mathlib.Tactic.FieldSimp
public import Mathlib.Tactic.LinearCombination
public import Mathlib.Tactic.Ring
public import Mathlib.Tactic.NormNum

@[expose] public section

noncomputable section

namespace Cert.Fourier

open Finset

/-- The angle of frequency `k` at sample `t`, of `N` samples. -/
def angle (N k t : ℕ) : ℝ := ((k * t % N : ℕ) : ℝ) * (2 * Real.pi / N)

/-- The weight of frequency `k` of `0, …, H`: one at the two ends, two in between. -/
def weight (H k : ℕ) : ℝ := if k = 0 ∨ k = H then 1 else 2

/-- Dropping whole turns from an angle leaves its cosine. -/
theorem cos_angle (N k t : ℕ) (hN : N ≠ 0) : Real.cos (angle N k t) = Real.cos (2 * Real.pi * k * t / N) := by
  have hN' : (N : ℝ) ≠ 0 := by exact_mod_cast hN
  have h : ((k * t : ℕ) : ℝ) = N * ((k * t / N : ℕ) : ℝ) + ((k * t % N : ℕ) : ℝ) := by
    exact_mod_cast (Nat.div_add_mod (k * t) N).symm
  have e : 2 * Real.pi * k * t / N = angle N k t + ((k * t / N : ℕ) : ℝ) * (2 * Real.pi) := by
    unfold angle
    have : (2 * Real.pi * k * t / N : ℝ) = 2 * Real.pi / N * ((k * t : ℕ) : ℝ) := by push_cast; ring
    rw [this, h]; field_simp; ring
  rw [e, Real.cos_add_nat_mul_two_pi]

/-- Dropping whole turns from an angle leaves its sine. -/
theorem sin_angle (N k t : ℕ) (hN : N ≠ 0) : Real.sin (angle N k t) = Real.sin (2 * Real.pi * k * t / N) := by
  have hN' : (N : ℝ) ≠ 0 := by exact_mod_cast hN
  have h : ((k * t : ℕ) : ℝ) = N * ((k * t / N : ℕ) : ℝ) + ((k * t % N : ℕ) : ℝ) := by
    exact_mod_cast (Nat.div_add_mod (k * t) N).symm
  have e : 2 * Real.pi * k * t / N = angle N k t + ((k * t / N : ℕ) : ℝ) * (2 * Real.pi) := by
    unfold angle
    have : (2 * Real.pi * k * t / N : ℝ) = 2 * Real.pi / N * ((k * t : ℕ) : ℝ) := by push_cast; ring
    rw [this, h]; field_simp; ring
  rw [e, Real.sin_add_nat_mul_two_pi]

/-- The cosines of all frequencies at a whole shift `d` add up to `N` at the shift zero and to zero at any other shift
    smaller than `N`. -/
theorem sum_cos (N : ℕ) (hN : N ≠ 0) (d : ℤ) (hd : |d| < N) :
    ∑ k ∈ range N, Real.cos (2 * Real.pi * k * d / N) = if d = 0 then (N : ℝ) else 0 := by
  have hNC : (N : ℂ) ≠ 0 := by exact_mod_cast hN
  split_ifs with h0
  · subst h0; simp
  · set z : ℂ := Complex.exp (2 * Real.pi * Complex.I * d / N) with hz
    have hzN : z ^ N = 1 := by
      rw [hz, ← Complex.exp_nat_mul, show (N : ℂ) * (2 * Real.pi * Complex.I * d / N) = d * (2 * Real.pi * Complex.I) by
        field_simp]
      exact Complex.exp_int_mul_two_pi_mul_I d
    have hz1 : z ≠ 1 := by
      intro h
      rw [hz, Complex.exp_eq_one_iff] at h
      obtain ⟨n, hn⟩ := h
      have h2 : (d : ℂ) = n * N := by
        have hpi : (2 * Real.pi * Complex.I : ℂ) ≠ 0 := Complex.two_pi_I_ne_zero
        have : (2 * Real.pi * Complex.I : ℂ) * d = (2 * Real.pi * Complex.I) * (n * N) := by
          field_simp at hn
          linear_combination (2 * Real.pi * Complex.I) * hn
        exact mul_left_cancel₀ hpi this
      have h3 : d = n * N := by exact_mod_cast h2
      have : (N : ℤ) ∣ d := ⟨n, by rw [h3]; ring⟩
      exact h0 (Int.eq_zero_of_abs_lt_dvd this hd)
    have hg : ∑ k ∈ range N, z ^ k = 0 := by
      rw [geom_sum_eq hz1, hzN]; simp
    have hre : ∀ k ∈ range N, Real.cos (2 * Real.pi * k * d / N) = (z ^ k).re := by
      intro k _
      rw [hz, ← Complex.exp_nat_mul,
        show (k : ℂ) * (2 * Real.pi * Complex.I * d / N) = ((2 * Real.pi * k * d / N : ℝ) : ℂ) * Complex.I by
          push_cast; ring, Complex.exp_ofReal_mul_I_re]
    rw [sum_congr rfl hre, ← Complex.re_sum, hg, Complex.zero_re]

/-- A sum over all `2 * H` frequencies of a function that takes the same value at `k` and `2 * H - k` is the weighted sum
    over the frequencies `0, …, H`. -/
theorem sum_fold (H : ℕ) (hH : H ≠ 0) (f : ℕ → ℝ) (hf : ∀ k, 0 < k → k < H → f (2 * H - k) = f k) :
    ∑ k ∈ range (H + 1), weight H k * f k = ∑ k ∈ range (2 * H), f k := by
  obtain ⟨h, rfl⟩ := Nat.exists_eq_succ_of_ne_zero hH
  have e2 : 2 * (h + 1) = (h + 2) + h := by ring
  have ends : ∀ g : ℕ → ℝ, ∑ k ∈ range (h + 2), g k = ∑ k ∈ range h, g (k + 1) + g 0 + g (h + 1) := fun g => by
    rw [sum_range_succ, sum_range_succ']
  rw [Nat.succ_eq_add_one, e2, sum_range_add f (h + 2) h, ends, ends]
  have hmid : ∑ x ∈ range h, f (h + 2 + x) = ∑ k ∈ range h, f (k + 1) := by
    rw [← sum_range_reflect]
    refine sum_congr rfl fun j hj => ?_
    have hj' : j < h := mem_range.mp hj
    rw [← hf (j + 1) (by omega) (by omega)]
    congr 1; omega
  have hw : ∀ k ∈ range h, weight (h + 1) (k + 1) * f (k + 1) = 2 * f (k + 1) := by
    intro k hk
    have hk' : k < h := mem_range.mp hk
    unfold weight
    rw [if_neg (by omega)]
  rw [hmid, sum_congr rfl hw, ← mul_sum]
  have w0 : weight (h + 1) 0 = 1 := by simp [weight]
  have w1 : weight (h + 1) (h + 1) = 1 := by simp [weight]
  rw [w0, w1]; ring

/-- The weighted cosines at a whole shift `d`, over the frequencies `0, …, H`, add up to `2 * H` at the shift zero and to
    zero at any other shift smaller than `2 * H`. -/
theorem sum_weight_cos (H : ℕ) (hH : H ≠ 0) (d : ℤ) (hd : |d| < (2 * H : ℕ)) :
    ∑ k ∈ range (H + 1), weight H k * Real.cos (2 * Real.pi * k * d / (2 * H : ℕ))
      = if d = 0 then ((2 * H : ℕ) : ℝ) else 0 := by
  rw [← sum_cos (2 * H) (by omega) d hd]
  refine sum_fold H hH (fun k => Real.cos (2 * Real.pi * k * d / (2 * H : ℕ))) fun k _ hk => ?_
  have hN : ((2 * H : ℕ) : ℝ) ≠ 0 := by exact_mod_cast (by omega : 2 * H ≠ 0)
  have e : 2 * Real.pi * ((2 * H - k : ℕ) : ℝ) * d / (2 * H : ℕ)
      = (d : ℝ) * (2 * Real.pi) - 2 * Real.pi * k * d / (2 * H : ℕ) := by
    rw [Nat.cast_sub (by omega)]; field_simp
  rw [e, Real.cos_int_mul_two_pi_sub]

/-- The transform inverts: `re` and `im` the cosine sum and the negated sine sum of the samples `x`, their weighted sum
    back at sample `t`, divided by the number of samples, is `x t`. -/
theorem inversion (H : ℕ) (hH : H ≠ 0) (x : ℕ → ℝ) (t : ℕ) (ht : t < 2 * H) :
    ((∑ k ∈ range (H + 1), weight H k * (∑ n ∈ range (2 * H), x n * Real.cos (angle (2 * H) k n))
          * Real.cos (angle (2 * H) k t))
        - ∑ k ∈ range (H + 1), weight H k * -(∑ n ∈ range (2 * H), x n * Real.sin (angle (2 * H) k n))
          * Real.sin (angle (2 * H) k t)) / (2 * H : ℕ) = x t := by
  have hN0 : 2 * H ≠ 0 := by omega
  have hN : ((2 * H : ℕ) : ℝ) ≠ 0 := by exact_mod_cast hN0
  rw [div_eq_iff hN, ← sum_sub_distrib]
  have step : ∀ k ∈ range (H + 1),
      weight H k * (∑ n ∈ range (2 * H), x n * Real.cos (angle (2 * H) k n)) * Real.cos (angle (2 * H) k t)
        - weight H k * -(∑ n ∈ range (2 * H), x n * Real.sin (angle (2 * H) k n)) * Real.sin (angle (2 * H) k t)
      = ∑ n ∈ range (2 * H), x n * (weight H k * Real.cos (2 * Real.pi * k * ((n : ℤ) - (t : ℤ) : ℤ) / (2 * H : ℕ))) := by
    intro k _
    rw [mul_neg, neg_mul, sub_neg_eq_add, mul_sum, mul_sum, sum_mul, sum_mul, ← sum_add_distrib]
    refine sum_congr rfl fun n _ => ?_
    rw [cos_angle _ _ _ hN0, cos_angle _ _ _ hN0, sin_angle _ _ _ hN0, sin_angle _ _ _ hN0,
      show 2 * Real.pi * k * (((n : ℤ) - (t : ℤ) : ℤ) : ℝ) / (2 * H : ℕ)
        = 2 * Real.pi * k * n / (2 * H : ℕ) - 2 * Real.pi * k * t / (2 * H : ℕ) by push_cast; ring, Real.cos_sub]
    ring
  rw [sum_congr rfl step, sum_comm]
  simp only [← mul_sum]
  have inner : ∀ n ∈ range (2 * H),
      x n * ∑ k ∈ range (H + 1), weight H k * Real.cos (2 * Real.pi * k * ((n : ℤ) - (t : ℤ) : ℤ) / (2 * H : ℕ))
      = if n = t then x t * (2 * H : ℕ) else 0 := by
    intro n hn
    have hn' : n < 2 * H := mem_range.mp hn
    rw [sum_weight_cos H hH _ (by rw [abs_lt]; omega)]
    by_cases h : n = t
    · subst h; simp
    · rw [if_neg (by omega), if_neg h, mul_zero]
  rw [sum_congr rfl inner, sum_ite_eq', if_pos (mem_range.mpr ht)]

end Cert.Fourier

end
-- ==== Proof.ReferenceTables.lean ====
/-
  The two constant tables of the reference: the cosines and sines of the angles of the discrete Fourier transform, and the
  weights with which the inverse transform counts its frequencies.
-/
module

public import proofs.«01_k».proof.Proof.Gen.ReferenceIdeal.Read
public import proofs.«01_k».proof.Proof.Fourier
public import Idealize.ShloMosaic.Lib.IdealHost
public import Idealize.ShloMosaic.Lib.Routing.Words
public import Idealize.ShloMosaic.Lib.WordCmp

@[expose] public section

noncomputable section

namespace Cert.ReferenceIdeal.Tables

open Cert.ReferenceIdeal Cert.ReferenceIdeal.Gen Cert.ReferenceIdeal.Read Idealize.ShloMosaic Idealize.ShloMosaic.WordCmp

/-- The constant 8. -/
theorem bits_eight : Ideal.ofBits .f32 0x41000000#32 = ((8 : ℝ) : EReal) := by
  simp [Ideal.ofBits, Ideal.ieee, -EReal.coe_mul]; norm_num

/-- The constant 4096. -/
theorem bits_length : Ideal.ofBits .f32 0x45800000#32 = ((4096 : ℝ) : EReal) := by
  simp [Ideal.ofBits, Ideal.ieee, -EReal.coe_mul]; norm_num

/-- The constant 2. -/
theorem bits_two : Ideal.ofBits .f32 0x40000000#32 = ((2 : ℝ) : EReal) := by
  simp [Ideal.ofBits, Ideal.ieee, -EReal.coe_mul]; norm_num

/-- The constant 1. -/
theorem bits_one : Ideal.ofBits .f32 0x3F800000#32 = ((1 : ℝ) : EReal) := by
  simp [Ideal.ofBits, Ideal.ieee, -EReal.coe_mul]; norm_num

/-- The infinity from which the minimum starts. -/
theorem bits_inf : Ideal.ofBits .f32 0x7F800000#32 = (⊤ : EReal) := by
  simp [Ideal.ofBits, Ideal.ieee]

/-- One step of the table of angles is `2π / 4096`: eight times the arctangent of 1 is `2π`. -/
theorem step_eq (i : S_.Idx) : val_main_v2 (F := Ideal) i = ((2 * Real.pi / (4096 : ℕ) : ℝ) : EReal) := by
  rw [val_main_v2_apply, val_main_v1_apply, val_main_v0_apply, val_main_cst_apply, val_main_cst_0_apply, val_main_cst_1_apply]
  simp only [Ideal.ofBits_def, Ideal.mulf_def, Ideal.hostDivf_def, Ideal.hostUnary_atan_def, bits_eight, bits_length, bits_one,
    Ideal.atan_coe, Real.arctan_one]
  rw [Ideal.div_coe (by norm_num), ← EReal.coe_mul, ← EReal.coe_mul]
  congr 1
  push_cast
  ring

/-- The integer table: the remainder of `k t` by 4096. -/
theorem phase_eq (i : S2049x4096.Idx) : val_main_v7 (F := Ideal) i = BitVec.ofNat 32 ((i 0).val * (i 1).val % 4096) := by
  rw [val_main_v7_apply, val_main_v5_apply, val_main_v3_apply, val_main_v4_apply, val_main_v6_apply, val_main_c_apply]
  have h0 : (i 0).val < 2049 := (i 0).isLt
  have h1 : (i 1).val < 4096 := (i 1).isLt
  have hm : IntOp.muli (BitVec.ofNat 32 (i 0).val) (BitVec.ofNat 32 (i 1).val) = BitVec.ofNat 32 ((i 0).val * (i 1).val) :=
    (BitVec.ofNat_mul _ _).symm
  have hlt : (i 0).val * (i 1).val < 2 ^ 31 := by
    have := Nat.mul_le_mul (Nat.le_of_lt h0) (Nat.le_of_lt h1)
    omega
  rw [hm]
  exact Routing.remsi_word .host hlt (by norm_num) (by norm_num)

/-- The table of angles. -/
theorem angle_eq (i : S2049x4096.Idx) :
    val_main_v10 (F := Ideal) i = ((Fourier.angle 4096 (i 0).val (i 1).val : ℝ) : EReal) := by
  rw [val_main_v10_apply, val_main_v8_apply, val_main_v9_apply, step_eq, phase_eq, Ideal.mulf_def]
  have hr : (i 0).val * (i 1).val % 4096 < 4096 := Nat.mod_lt _ (by norm_num)
  have hs : FloatOps.sitofp (F := Ideal) .f32 (BitVec.ofNat 32 ((i 0).val * (i 1).val % 4096))
      = ((((BitVec.ofNat 32 ((i 0).val * (i 1).val % 4096)).toInt : ℝ)) : EReal) := rfl
  rw [hs, toInt_ofNat_of_lt (by omega), ← EReal.coe_mul]
  simp only [Fourier.angle, Int.cast_natCast]

/-- The table of cosines. -/
theorem cos_eq (i : S2049x4096.Idx) :
    val_main_v11 (F := Ideal) i = ((Real.cos (Fourier.angle 4096 (i 0).val (i 1).val) : ℝ) : EReal) := by
  rw [val_main_v11_apply, angle_eq, Ideal.hostUnary_cos_def]; rfl

/-- The table of sines. -/
theorem sin_eq (i : S2049x4096.Idx) :
    val_main_v12 (F := Ideal) i = ((Real.sin (Fourier.angle 4096 (i 0).val (i 1).val) : ℝ) : EReal) := by
  rw [val_main_v12_apply, angle_eq, Ideal.hostUnary_sin_def]; rfl

/-- The weights: 1 for the first and the last frequency, 2 for the others, each of which also stands for its mirror image. -/
theorem weight_eq (i : S2049.Idx) : val_main_v37 (F := Ideal) i = ((Fourier.weight 2048 (i 0).val : ℝ) : EReal) := by
  have h0 : (i 0).val < 2049 := (i 0).isLt
  have e1 : val_main_v32 (F := Ideal) i = BitVec.ofBool (decide ((i 0).val = 0)) := by
    rw [val_main_v32_apply, val_main_v30_apply, val_main_v31_apply, val_main_c_7_apply]
    exact cmpi_eq_ofNat (w := 32) (by omega) (by norm_num)
  have e2 : val_main_v34 (F := Ideal) i = BitVec.ofBool (decide ((i 0).val = 2048)) := by
    rw [val_main_v34_apply, val_main_v30_apply, val_main_v33_apply, val_main_c_8_apply]
    exact cmpi_eq_ofNat (w := 32) (by omega) (by norm_num)
  have e3 : val_main_v37 (F := Ideal) i = Scalar.select (val_main_v35 (F := Ideal) i)
      (Ideal.ofBits .f32 0x3F800000#32) (Ideal.ofBits .f32 0x40000000#32) := by
    show val_main_v36 (F := Ideal) i = _
    rw [val_main_v36_apply, val_main_call2_v0_apply, val_main_call2_v1_apply]
    rfl
  rw [e3, val_main_v35_apply, e1, e2, ori_ofBool, bits_one, bits_two]
  unfold Fourier.weight Scalar.select
  by_cases ha : (i 0).val = 0 <;> by_cases hb : (i 0).val = 2048 <;> simp [ha, hb]

end Cert.ReferenceIdeal.Tables

end
-- ==== Proof.ReferenceThreshold.lean ====
/-
  The threshold of the reference. Its magnitudes are set to zero in all of slice 0 (`freq_first`) and kept in the other
  slices (`freq_rest`); where the argument is finite they are square roots of sums of two squares, so nonnegative. So every
  one of the five greatest magnitudes of any row is nonnegative, those of slice 0 are zero, and the least of them all, which
  is the threshold, is zero (`threshold_eq`).
-/
module

public import proofs.«01_k».proof.Proof.ReferenceTables
public import Idealize.ShloMosaic.Lib.Routing.OpsSet
public import Idealize.ShloMosaic.PureOps.Reduce

@[expose] public section

noncomputable section

namespace Cert.ReferenceIdeal.Threshold

open Cert.ReferenceIdeal Cert.ReferenceIdeal.Gen Cert.ReferenceIdeal.Read Cert.ReferenceIdeal.Tables Idealize.ShloMosaic
open Finset (range)

/-! ## The real transform of a row -/

/-- Outside slice 0 every element of the argument is a real number. -/
def FiniteRest (x : S4x2048x4096.Idx → EReal) : Prop := ∀ i, (i 0).val ≠ 0 → ∃ r : ℝ, x i = (r : EReal)

/-- The index of element `n` of the row that an element of the spectrum belongs to. -/
abbrev entry (i : S4x2048x2049.Idx) (n : Fin 4096) : S4x2048x4096.Idx := fun a => match a with
  | ⟨0, _⟩ => ⟨(i 0).val, (i 0).isLt⟩
  | ⟨1, _⟩ => ⟨(i 1).val, (i 1).isLt⟩
  | ⟨2, _⟩ => ⟨n.val, n.isLt⟩

/-- The row that an element of the spectrum belongs to, as real numbers. -/
def row (x : S4x2048x4096.Idx → EReal) (i : S4x2048x2049.Idx) (n : ℕ) : ℝ :=
  if h : n < 4096 then (x (entry i ⟨n, h⟩)).toReal else 0

/-- The sum of a row against the cosines of frequency `i 2`. -/
def re (x : S4x2048x4096.Idx → EReal) (i : S4x2048x2049.Idx) : ℝ :=
  ∑ n ∈ range 4096, row x i n * Real.cos (Fourier.angle 4096 (i 2).val n)

/-- The sum of a row against the sines of frequency `i 2`. -/
def im (x : S4x2048x4096.Idx → EReal) (i : S4x2048x2049.Idx) : ℝ :=
  ∑ n ∈ range 4096, row x i n * Real.sin (Fourier.angle 4096 (i 2).val n)

/-- A finite sum of real numbers is the same sum in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section Rest

variable {x : S4x2048x4096.Idx → EReal} (hx : FiniteRest x) {i : S4x2048x2049.Idx} (hi : (i 0).val ≠ 0)
include hx hi

/-- Outside slice 0 an element of the argument is the element of its real row. -/
theorem row_eq (n : Fin 4096) : x (entry i n) = ((row x i n.val : ℝ) : EReal) := by
  obtain ⟨r, hr⟩ := hx (entry i n) hi
  rw [row, dif_pos n.isLt]
  show x (entry i n) = ((x (entry i n)).toReal : EReal)
  rw [hr, EReal.toReal_coe]

/-- The real part of the spectrum. -/
theorem re_eq : val_main_v13 (F := Ideal) x i = ((re x i : ℝ) : EReal) := by
  rw [val_main_v13_apply, re, Finset.sum_range, coe_sum]
  refine Finset.sum_congr rfl fun n _ => ?_
  rw [EReal.coe_mul, ← row_eq hx hi n, cos_eq]
  rfl

/-- The sums against the sines. -/
theorem sines_eq : val_main_v14 (F := Ideal) x i = ((im x i : ℝ) : EReal) := by
  rw [val_main_v14_apply, im, Finset.sum_range, coe_sum]
  refine Finset.sum_congr rfl fun n _ => ?_
  rw [EReal.coe_mul, ← row_eq hx hi n, sin_eq]
  rfl

/-- The imaginary part of the spectrum is the negated sum against the sines. -/
theorem im_eq : val_main_v15 (F := Ideal) x i = ((-im x i : ℝ) : EReal) := by
  rw [val_main_v15_apply, sines_eq hx hi, Ideal.hostNegf_def, EReal.coe_neg]
  rfl

/-- The magnitude. -/
theorem magnitude_eq : val_main_v19 (F := Ideal) x i = ((Real.sqrt (re x i ^ 2 + im x i ^ 2) : ℝ) : EReal) := by
  rw [val_main_v19_apply, val_main_v18_apply, val_main_v16_apply, val_main_v17_apply, re_eq hx hi, im_eq hx hi]
  simp only [Ideal.mulf_def, Ideal.addf_def, Ideal.hostUnary_sqrt_def, ← EReal.coe_mul, ← EReal.coe_add]
  have e : re x i * re x i + -im x i * -im x i = re x i ^ 2 + im x i ^ 2 := by ring
  rw [e]
  show (if re x i ^ 2 + im x i ^ 2 < 0 then (⊥ : EReal) else ((Real.sqrt (re x i ^ 2 + im x i ^ 2) : ℝ) : EReal)) = _
  rw [if_neg (not_lt.2 (by positivity))]

end Rest

/-! ## Slice 0 set to zero -/

/-- How the zeros are written over the magnitudes. -/
abbrev writing : ScatterDims S4x2048x2049 S1 S2048x2049 := scatter_S4x2048x2049_S1_S2048x2049_01_0_0_0

/-- The zeros are written from slice 0 on: the start of the writing on axis 0 is zero. -/
theorem start_eq (k : S2048x2049.Idx) (a : Fin S4x2048x2049.rank) : writing.start k (val_main_v20 (F := Ideal)) a = 0 := by
  unfold ScatterDims.start
  split
  · rw [val_main_v20_apply, val_main_c_2_apply]; rfl
  · rfl

/-- Element `(r, k)` of the zeros is written at `(0, r, k)`. -/
theorem window_eq (k : S2048x2049.Idx) :
    writing.window k 0 = 0 ∧ writing.window k 1 = (k 0).val ∧ writing.window k 2 = (k 1).val := by
  refine ⟨?_, ?_, ?_⟩
  · unfold ScatterDims.window
    rw [dif_neg (by decide)]
  · unfold ScatterDims.window
    rw [dif_pos (by decide)]
    rfl
  · unfold ScatterDims.window
    rw [dif_pos (by decide)]
    rfl

/-- Where an element of the zeros is written. -/
theorem lands (k : S2048x2049.Idx) (i : S4x2048x2049.Idx) :
    writing.resultIdx? k (val_main_v20 (F := Ideal)) = some i ↔ (i 0).val = 0 ∧ (i 1).val = (k 0).val ∧ (i 2).val = (k 1).val := by
  obtain ⟨w0, w1, w2⟩ := window_eq k
  rw [Routing.resultIdx?_eq_some]
  constructor
  · intro h
    have h0 := h 0
    have h1 := h 1
    have h2 := h 2
    rw [start_eq] at h0 h1 h2
    rw [w0] at h0
    rw [w1] at h1
    rw [w2] at h2
    omega
  · rintro ⟨h0, h1, h2⟩ a
    rw [start_eq]
    fin_cases a
    · show (0 : Int) + ((writing.window k 0 : ℕ) : Int) = ((i 0).val : Int)
      rw [w0]; omega
    · show (0 : Int) + ((writing.window k 1 : ℕ) : Int) = ((i 1).val : Int)
      rw [w1]; omega
    · show (0 : Int) + ((writing.window k 2 : ℕ) : Int) = ((i 2).val : Int)
      rw [w2]; omega

/-- In slice 0 the magnitudes are set to zero. -/
theorem freq_first (x : S4x2048x4096.Idx → EReal) (i : S4x2048x2049.Idx) (h : (i 0).val = 0) :
    val_main_v22 (F := Ideal) x i = 0 := by
  unfold val_main_v22
  refine Routing.scatter_set_hit _ _ _ _ i 0 (fun k _ => ?_)
    (fun a => match a with | ⟨0, _⟩ => ⟨(i 1).val, (i 1).isLt⟩ | ⟨1, _⟩ => ⟨(i 2).val, (i 2).isLt⟩) ((lands _ i).2 ⟨h, rfl, rfl⟩)
  rw [val_main_v21_apply, val_main_cst_3_apply]
  exact Ideal.ofBits_zero_f32

/-- In the other slices the magnitudes are kept. -/
theorem freq_rest (x : S4x2048x4096.Idx → EReal) (i : S4x2048x2049.Idx) (h : (i 0).val ≠ 0) :
    val_main_v22 (F := Ideal) x i = val_main_v19 (F := Ideal) x i := by
  unfold val_main_v22
  exact Routing.scatter_set_miss _ _ _ _ i fun k hk => h ((lands k i).1 hk).1

/-- No magnitude is negative. -/
theorem freq_nonneg {x : S4x2048x4096.Idx → EReal} (hx : FiniteRest x) (i : S4x2048x2049.Idx) :
    0 ≤ val_main_v22 (F := Ideal) x i := by
  by_cases h : (i 0).val = 0
  · rw [freq_first x i h]
  · rw [freq_rest x i h, magnitude_eq hx h]
    exact EReal.coe_nonneg.2 (Real.sqrt_nonneg _)

/-! ## The greatest magnitudes and the least of them -/

/-- A sort along an axis moves elements along that axis only. -/
theorem sorted_mem {s : Shape} {α β : Type} (d : Fin s.rank) (cmp : α × β → α × β → BitVec 1) (x : s.Idx → α) (y : s.Idx → β)
    (j : s.Idx) : ∃ k, (Host.sort2 s d.val cmp x y).1 j = x (j.along d k) := by
  unfold Host.sort2
  rw [dif_pos d.isLt]
  exact ⟨_, rfl⟩

/-- Each of the greatest magnitudes is a magnitude of its own slice. -/
theorem top_mem (x : S4x2048x4096.Idx → EReal) (j : S4x2048x5.Idx) :
    ∃ i : S4x2048x2049.Idx, (i 0).val = (j 0).val ∧ val_main_values (F := Ideal) x j = val_main_v22 (F := Ideal) x i := by
  unfold val_main_values
  generalize val_main_v22 (F := Ideal) x = y
  obtain ⟨k, hk⟩ := sorted_mem (s := S4x2048x2049) (α := EReal) (2 : Fin 3) (fun l r => FloatOps.cmpfTotal (F := Ideal) (φ := .f32) .gt l.1 r.1) y
    (fun i => if hd : 2 < S4x2048x2049.rank then iotaInDim S4x2048x2049 32 ⟨2, hd⟩ i else 0#32)
    (fun a => ⟨0 + (j (a.cast sliceFits_S4x2048x2049_S4x2048x5.1.symm)).val,
      Nat.lt_of_lt_of_le (Nat.add_lt_add_left (j _).isLt _) (sliceFits_S4x2048x2049_S4x2048x5.2 a)⟩)
  refine ⟨_, ?_, hk⟩
  unfold Shape.Idx.along
  rw [Function.update_of_ne (by decide)]
  exact Nat.zero_add _

/-- The first of the greatest magnitudes of the first row. -/
abbrev corner : S4x2048x5.Idx := fun a => match a with
  | ⟨0, _⟩ => (0 : Fin 4)
  | ⟨1, _⟩ => (0 : Fin 2048)
  | ⟨2, _⟩ => (0 : Fin 5)

/-- The threshold is zero. -/
theorem threshold_eq {x : S4x2048x4096.Idx → EReal} (hx : FiniteRest x) (j : S_.Idx) : val_main_v23 (F := Ideal) x j = 0 := by
  unfold val_main_v23
  show Host.reduce (min : EReal → EReal → EReal) (val_main_values (F := Ideal) x) (val_main_cst_4 (F := Ideal)) _ _ j = 0
  rw [Host.reduce_eq_fold]
  apply le_antisymm
  · rw [Finset.fold_min_le]
    refine Or.inr ⟨corner,
      Finset.mem_filter.2 ⟨Finset.mem_univ _, funext fun a => a.elim0⟩, ?_⟩
    obtain ⟨i, h0, h⟩ := top_mem x corner
    rw [h, freq_first x i h0]
  · rw [Finset.le_fold_min]
    refine ⟨?_, fun k _ => ?_⟩
    · rw [val_main_cst_4_apply, Ideal.ofBits_def, bits_inf]
      exact le_top
    · obtain ⟨i, _, h⟩ := top_mem x k
      rw [h]
      exact freq_nonneg hx i

end Cert.ReferenceIdeal.Threshold

end
-- ==== Proof.ReferenceValue.lean ====
/-
  What the reference computes. The mask marks the magnitudes that are at most zero. In slice 0 these are all of them, so the
  whole spectrum is set to zero, the first result is zero and the second is the argument. In every other slice a marked
  element of the spectrum is zero already, so the spectrum is kept whole, the inverse transform gives the argument back as
  the first result, and the second is zero.
-/
module

public import proofs.«01_k».proof.Proof.ReferenceThreshold

@[expose] public section

noncomputable section

namespace Cert.ReferenceIdeal.Results

open Cert.ReferenceIdeal Cert.ReferenceIdeal.Gen Cert.ReferenceIdeal.Read Cert.ReferenceIdeal.Tables
open Cert.ReferenceIdeal.Threshold Idealize.ShloMosaic
open Finset (range)

variable {x : S4x2048x4096.Idx → EReal} (hx : FiniteRest x)
include hx

/-- The mask marks the magnitudes that are at most zero. -/
theorem mask_eq (i : S4x2048x2049.Idx) :
    val_main_v25 (F := Ideal) x i = BitVec.ofBool (decide (val_main_v22 (F := Ideal) x i ≤ 0)) := by
  rw [val_main_v25_apply, val_main_v24_apply, threshold_eq hx, Ideal.cmpf_def]
  rfl

/-- In slice 0 the masked spectrum is zero. -/
theorem masked_first (i : S4x2048x2049.Idx) (h : (i 0).val = 0) :
    val_main_v27 (F := Ideal) x i = 0 ∧ val_main_v29 (F := Ideal) x i = 0 := by
  have hm : val_main_v25 (F := Ideal) x i = 1#1 := by
    rw [mask_eq hx, freq_first x i h, decide_eq_true le_rfl]; rfl
  rw [val_main_v27_apply, val_main_v29_apply, hm, val_main_v26_apply, val_main_v28_apply]
  exact ⟨Ideal.ofBits_zero_f32, Ideal.ofBits_zero_f32⟩

/-- In the other slices the masked spectrum is the spectrum. -/
theorem masked_rest (i : S4x2048x2049.Idx) (h : (i 0).val ≠ 0) :
    val_main_v27 (F := Ideal) x i = ((re x i : ℝ) : EReal) ∧ val_main_v29 (F := Ideal) x i = ((-im x i : ℝ) : EReal) := by
  rw [val_main_v27_apply, val_main_v29_apply, re_eq hx h, im_eq hx h, mask_eq hx, val_main_v26_apply, val_main_v28_apply,
    val_main_cst_5_apply, val_main_cst_6_apply, Ideal.ofBits_def, Ideal.ofBits_zero_f32]
  by_cases hz : val_main_v22 (F := Ideal) x i ≤ 0
  · rw [freq_rest x i h, magnitude_eq hx h] at hz
    have hs : re x i ^ 2 + im x i ^ 2 = 0 := by
      have h0 : Real.sqrt (re x i ^ 2 + im x i ^ 2) ≤ 0 := EReal.coe_nonpos.1 hz
      have h1 := Real.sqrt_eq_zero'.1 (le_antisymm h0 (Real.sqrt_nonneg _))
      exact le_antisymm h1 (by positivity)
    have hr : re x i = 0 := by nlinarith [sq_nonneg (re x i), sq_nonneg (im x i)]
    have hi : im x i = 0 := by nlinarith [sq_nonneg (re x i), sq_nonneg (im x i)]
    rw [hr, hi, neg_zero, EReal.coe_zero]
    unfold Scalar.select
    exact ⟨ite_self _, ite_self _⟩
  · rw [decide_eq_false hz]
    exact ⟨rfl, rfl⟩

/-- In slice 0 the first result is zero. -/
theorem season_first (i : S4x2048x4096.Idx) (h : (i 0).val = 0) : val_main_v48 (F := Ideal) x i = 0 := by
  have hc : val_main_v41 (F := Ideal) x i = 0 := by
    rw [val_main_v41_apply]
    refine Finset.sum_eq_zero fun k _ => ?_
    rw [val_main_v40_apply, (masked_first hx (lidx_main_v41 i k) h).1, Ideal.mulf_def, mul_zero, zero_mul]
  have hs : val_main_v45 (F := Ideal) x i = 0 := by
    rw [val_main_v45_apply]
    refine Finset.sum_eq_zero fun k _ => ?_
    rw [val_main_v44_apply, (masked_first hx (lidx_main_v45 i k) h).2, Ideal.mulf_def, mul_zero, zero_mul]
  rw [val_main_v48_apply, val_main_v46_apply, hc, hs, val_main_v47_apply, val_main_cst_11_apply, Ideal.ofBits_def, bits_length,
    Ideal.subf_def, Ideal.hostDivf_def, sub_zero, Ideal.div_coe (by norm_num), zero_mul]

/-- In the other slices the first result is the argument: the inverse transform undoes the transform. -/
theorem season_rest (i : S4x2048x4096.Idx) (h : (i 0).val ≠ 0) : val_main_v48 (F := Ideal) x i = x i := by
  have hc : val_main_v41 (F := Ideal) x i
      = ((∑ k ∈ range (2048 + 1), Fourier.weight 2048 k
          * (∑ n ∈ range (2 * 2048), row x (lidx_main_v41 i 0) n * Real.cos (Fourier.angle (2 * 2048) k n))
          * Real.cos (Fourier.angle (2 * 2048) k (i 2).val) : ℝ) : EReal) := by
    rw [val_main_v41_apply, Finset.sum_range, coe_sum]
    refine Finset.sum_congr rfl fun k _ => ?_
    rw [val_main_v40_apply, (masked_rest hx (lidx_main_v41 i k) h).1, val_main_v39_apply, val_main_v38_apply, weight_eq, cos_eq,
      Ideal.mulf_def, EReal.coe_mul, EReal.coe_mul]
    rfl
  have hs : val_main_v45 (F := Ideal) x i
      = ((∑ k ∈ range (2048 + 1), Fourier.weight 2048 k
          * -(∑ n ∈ range (2 * 2048), row x (lidx_main_v41 i 0) n * Real.sin (Fourier.angle (2 * 2048) k n))
          * Real.sin (Fourier.angle (2 * 2048) k (i 2).val) : ℝ) : EReal) := by
    rw [val_main_v45_apply, Finset.sum_range, coe_sum]
    refine Finset.sum_congr rfl fun k _ => ?_
    rw [val_main_v44_apply, (masked_rest hx (lidx_main_v45 i k) h).2, val_main_v43_apply, val_main_v42_apply, weight_eq, sin_eq,
      Ideal.mulf_def, EReal.coe_mul, EReal.coe_mul]
    rfl
  have hinv := Fourier.inversion 2048 (by norm_num) (row x (lidx_main_v41 i 0)) (i 2).val (i 2).isLt
  have hrow : ((row x (lidx_main_v41 i 0) (i 2).val : ℝ) : EReal) = x i := by
    rw [← row_eq hx (i := lidx_main_v41 i 0) h (i 2)]
    congr 1
    funext a
    match a with
    | ⟨0, _⟩ => rfl
    | ⟨1, _⟩ => rfl
    | ⟨2, _⟩ => rfl
  rw [val_main_v48_apply, val_main_v46_apply, hc, hs, val_main_v47_apply, val_main_cst_11_apply, Ideal.ofBits_def, bits_length,
    Ideal.subf_def, Ideal.hostDivf_def, Ideal.div_coe (by norm_num), ← EReal.coe_sub, ← EReal.coe_mul, ← hrow, ← hinv]
  congr 1
  rw [mul_one_div]
  norm_num

/-- In slice 0 the second result is the argument. -/
theorem trend_first (i : S4x2048x4096.Idx) (h : (i 0).val = 0) : val_main_v49 (F := Ideal) x i = x i := by
  rw [val_main_v49_apply, season_first hx i h, Ideal.subf_def, sub_zero]

/-- In the other slices the second result is zero. -/
theorem trend_rest (i : S4x2048x4096.Idx) (h : (i 0).val ≠ 0) : val_main_v49 (F := Ideal) x i = 0 := by
  rw [val_main_v49_apply, season_rest hx i h, Ideal.subf_def]
  obtain ⟨r, hr⟩ := hx i h
  rw [hr, ← EReal.coe_sub, sub_self, EReal.coe_zero]

end Cert.ReferenceIdeal.Results

end
-- ==== Proof.Agreement.lean ====
/-
  The kernel and the reference agree: both results are equal at every argument that is finite outside slice 0.
-/
module

public import proofs.«01_k».proof.Defs
public import proofs.«01_k».proof.Proof.KernelValue
public import proofs.«01_k».proof.Proof.ReferenceValue
public import proofs.«01_k».proof.Proof.Gen.Kernel.Frame
public import proofs.«01_k».proof.Proof.Gen.KernelIdeal.Frame
public import proofs.«01_k».proof.Proof.Gen.Pre_finite
public import Idealize.ShloMosaic.Lib.Quiescent

@[expose] public section

noncomputable section

namespace Cert.Agreement

open Idealize.ShloMosaic Idealize.SL.Sem
open Cert.ReferenceIdeal (S4x2048x4096)
open Cert.ReferenceIdeal.Threshold (FiniteRest)

/-- An extended real whose absolute value is below infinity is a real number. -/
theorem real_of_abs_lt {a : EReal} (h : max a (-a) < ⊤) : ∃ r : ℝ, a = (r : EReal) := by
  induction a with
  | bot => simp at h
  | top => simp at h
  | coe r => exact ⟨r, rfl⟩

/-- The element of the compared slices that stands for an element of the argument outside slice 0. -/
abbrev below (i : S4x2048x4096.Idx) : Cert.Pre_finite.S3x2048x4096.Idx := fun a => match a with
  | ⟨0, _⟩ => ⟨(i 0).val - 1, by have : (i 0).val < 4 := (i 0).isLt; show (i 0).val - 1 < 3; omega⟩
  | ⟨1, _⟩ => ⟨(i 1).val, (i 1).isLt⟩
  | ⟨2, _⟩ => ⟨(i 2).val, (i 2).isLt⟩

/-- The precondition says that every element outside slice 0 is a real number. -/
theorem finite_rest (x : S4x2048x4096.Idx → EReal) (h : Cert.Pre_finite.fn (F := Ideal) x = fun _ => 1#1) : FiniteRest x := by
  intro i hi
  have e := congrFun h (below i)
  have ex : Cert.Pre_finite.fn (F := Ideal) x (below i)
      = BitVec.ofBool (decide (max (x i) (-(x i)) < Ideal.ofBits .f32 0x7F800000#32)) := by
    have hs : extractStridedSlice Cert.Pre_finite.S3x2048x4096 ![1, 0, 0] x
        Cert.Pre_finite.Facts.slices_S4x2048x4096_S3x2048x4096_1_0_0 (below i) = x i := by
      unfold extractStridedSlice
      congr 1
      funext a
      apply Fin.ext
      match a with
      | ⟨0, _⟩ => show 1 + ((i 0).val - 1) = (i 0).val; omega
      | ⟨1, _⟩ => exact Nat.zero_add _
      | ⟨2, _⟩ => exact Nat.zero_add _
    rw [← hs]
    rfl
  rw [ex, Cert.ReferenceIdeal.Tables.bits_inf] at e
  exact real_of_abs_lt ((WordCmp.ofBool_decide_eq_one_iff _).1 e)

/-- The reference's first result is the kernel's. -/
theorem season_agree (x : S4x2048x4096.Idx → EReal) (hx : FiniteRest x) :
    Cert.ReferenceIdeal.Read.val_main_v48 (F := Ideal) x = Cert.KernelIdeal.Split.season (F := Ideal) x := by
  funext i
  by_cases h : (i 0).val = 0
  · rw [Cert.ReferenceIdeal.Results.season_first hx i h]
    unfold Cert.KernelIdeal.Split.season
    rw [if_pos h]
    exact Ideal.ofBits_zero_f32.symm
  · rw [Cert.ReferenceIdeal.Results.season_rest hx i h]
    unfold Cert.KernelIdeal.Split.season
    rw [if_neg h]

/-- The reference's second result is the kernel's. -/
theorem trend_agree (x : S4x2048x4096.Idx → EReal) (hx : FiniteRest x) :
    Cert.ReferenceIdeal.Read.val_main_v49 (F := Ideal) x = Cert.KernelIdeal.Split.trend (F := Ideal) x := by
  funext i
  by_cases h : (i 0).val = 0
  · rw [Cert.ReferenceIdeal.Results.trend_first hx i h]
    unfold Cert.KernelIdeal.Split.trend
    rw [if_pos h]
  · rw [Cert.ReferenceIdeal.Results.trend_rest hx i h]
    unfold Cert.KernelIdeal.Split.trend
    rw [if_neg h]
    exact Ideal.ofBits_zero_f32.symm

/-- The reference runs, leaves its argument unchanged and every counter at zero, from any memory. -/
theorem reference_quiescent : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- From memories that agree on an argument finite outside slice 0, the kernel and the reference both run, end with equal
    first and second results, and leave their arguments unchanged. -/
theorem results_agree : Cert.algebraic_KernelIdeal_ReferenceIdeal_pre_finite := fun m ρ m' ρ' hp hm =>
  ⟨_, _, Cert.KernelIdeal.Split.run m ρ,
    (θ_run Cert.ReferenceIdeal.defs _ _).mono (fun r h c => by
      obtain ⟨h48, h49, ha⟩ := h c
      have hx := finite_rest _ (hp c)
      refine ⟨h48.trans ?_, h49.trans ?_, ha⟩
      · rw [Cert.ReferenceIdeal.Read.val_main_v48_eq, hm c]
        exact season_agree _ hx
      · rw [Cert.ReferenceIdeal.Read.val_main_v49_eq, hm c]
        exact trend_agree _ hx) (Cert.ReferenceIdeal.Value.run (F := Ideal) m' ρ')⟩

end Cert.Agreement

end
-- ==== Proof.lean ====
/-
  The claims about the kernel that splits its argument into a seasonal part and a trend, put together: the runs and the
  counters from the generated modules, the equality of both results with the reference's from `Proof.Agreement`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- Everything the certificate claims: the kernel, its idealization and the reference run and leave their argument unchanged
    and their counters at zero, and the idealized kernel and the reference have equal results. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  Cert.Agreement.reference_quiescent,
  fun m ρ _ => Cert.Agreement.reference_quiescent m ρ trivial,
  trivial,
  Cert.Agreement.results_agree⟩

end Cert.Proof

end
